-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_imgs [hPre_finite_imgs : Cert.Pre_finite_imgs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_imgs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_imgs [hPre_finite_imgs : Cert.Pre_finite_imgs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_imgs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_imgs [hKernelIdeal : Cert.KernelIdeal.Facts] [hPre_finite_imgs : Cert.Pre_finite_imgs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_imgs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_imgs [hReferenceIdeal : Cert.ReferenceIdeal.Facts] [hPre_finite_imgs : Cert.Pre_finite_imgs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_imgs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_k" .f32 0x3AAAAAAB#32 ((768⁻¹ : ℝ) : EReal)

def algebraic_KernelIdeal_ReferenceIdeal_pre_finite_imgs [hKernelIdeal : Cert.KernelIdeal.Facts] [hReferenceIdeal : Cert.ReferenceIdeal.Facts] [hPre_finite_imgs : Cert.Pre_finite_imgs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_imgs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_imgs : Cert.Pre_finite_imgs.Facts),
    quiescent_Kernel (hKernel := hKernel)
    ∧ quiescent_KernelIdeal (hKernelIdeal := hKernelIdeal)
    ∧ quiescent_KernelIdeal_pre_finite_imgs (hKernelIdeal := hKernelIdeal) (hPre_finite_imgs := hPre_finite_imgs)
    ∧ quiescent_ReferenceIdeal (hReferenceIdeal := hReferenceIdeal)
    ∧ quiescent_ReferenceIdeal_pre_finite_imgs (hReferenceIdeal := hReferenceIdeal) (hPre_finite_imgs := hPre_finite_imgs)
    ∧ preserves_Kernel_KernelIdeal
    ∧ algebraic_KernelIdeal_ReferenceIdeal_pre_finite_imgs (hKernelIdeal := hKernelIdeal) (hReferenceIdeal := hReferenceIdeal) (hPre_finite_imgs := hPre_finite_imgs)
-- ==== Pre_finite_imgs.lean ====
abbrev S256x3x224x224 : Shape := ⟨4, ![256, 3, 224, 224]⟩
abbrev S256x196x768 : Shape := ⟨3, ![256, 196, 768]⟩
abbrev S256x196 : Shape := ⟨2, ![256, 196]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel

variable [Facts]

def fn {F : FTy → Type} [FloatOps F] (main_arg0 : FVec F S256x3x224x224 .f32) (main_arg1 : FVec F S256x196x768 .f32) (main_arg2 : FVec F S256x196 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  main_v3
-- ==== Kernel.lean ====
abbrev S256x3x224x224 : Shape := ⟨4, ![256, 3, 224, 224]⟩
abbrev S256x196x768 : Shape := ⟨3, ![256, 196, 768]⟩
abbrev S256x196 : Shape := ⟨2, ![256, 196]⟩
abbrev S256x3x14x16x224 : Shape := ⟨5, ![256, 3, 14, 16, 224]⟩
abbrev S32x4x392 : Shape := ⟨3, ![32, 4, 392]⟩
abbrev S1x1 : Shape := ⟨2, ![1, 1]⟩
abbrev S8x3x14x16x224 : Shape := ⟨5, ![8, 3, 14, 16, 224]⟩
abbrev S8x196x768 : Shape := ⟨3, ![8, 196, 768]⟩
abbrev S1x4x392 : Shape := ⟨3, ![1, 4, 392]⟩
abbrev S2 : Shape := ⟨1, ![2]⟩
abbrev S768x768 : Shape := ⟨2, ![768, 768]⟩
abbrev S1 : Shape := ⟨1, ![1]⟩
abbrev S2x3x14x16x224 : Shape := ⟨5, ![2, 3, 14, 16, 224]⟩
abbrev S2x3x14x16x14x16 : Shape := ⟨6, ![2, 3, 14, 16, 14, 16]⟩
abbrev S2x14x14x3x16x16 : Shape := ⟨6, ![2, 14, 14, 3, 16, 16]⟩
abbrev S392x768 : Shape := ⟨2, ![392, 768]⟩
abbrev S392 : Shape := ⟨1, ![392]⟩
abbrev S392x1 : Shape := ⟨2, ![392, 1]⟩
abbrev S2x196x768 : Shape := ⟨3, ![2, 196, 768]⟩
abbrev S1x1x392 : Shape := ⟨3, ![1, 1, 392]⟩
abbrev S1x392 : Shape := ⟨2, ![1, 392]⟩

abbrev nBuf : Space → Nat
  | .hbm => 6
  | .vmem => 8
  | .smem => 1
  | _ => 0

abbrev bufTy : (tb : Table) → Fin (tcTables nBuf tb) → BufTy
  | .hbm, ⟨0, _⟩ => ⟨S256x3x224x224, .f32⟩
  | .hbm, ⟨1, _⟩ => ⟨S256x196x768, .f32⟩
  | .hbm, ⟨2, _⟩ => ⟨S256x196, .f32⟩
  | .hbm, ⟨3, _⟩ => ⟨S256x3x14x16x224, .f32⟩
  | .hbm, ⟨4, _⟩ => ⟨S32x4x392, .f32⟩
  | .hbm, ⟨5, _⟩ => ⟨S1x1, .f32⟩
  | .local _ .vmem, ⟨0, _⟩ => ⟨S8x3x14x16x224, .f32⟩
  | .local _ .vmem, ⟨1, _⟩ => ⟨S8x3x14x16x224, .f32⟩
  | .local _ .vmem, ⟨2, _⟩ => ⟨S8x196x768, .f32⟩
  | .local _ .vmem, ⟨3, _⟩ => ⟨S8x196x768, .f32⟩
  | .local _ .vmem, ⟨4, _⟩ => ⟨S1x4x392, .f32⟩
  | .local _ .vmem, ⟨5, _⟩ => ⟨S1x4x392, .f32⟩
  | .local _ .vmem, ⟨6, _⟩ => ⟨S1x1, .f32⟩
  | .local _ .vmem, ⟨7, _⟩ => ⟨S768x768, .bf16⟩
  | .local _ .smem, ⟨0, _⟩ => ⟨S2, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch1 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_2 : BitVec 32 := 0#32
  let c4_i32 : BitVec 32 := 4#32
  let v3 : BitVec 32 := Scalar.addi c0_i32_2 c4_i32
  let c1_i32 : BitVec 32 := 1#32
  ⟨c0_i32_2, v3, c1_i32⟩
def k0_off1 (k0_t1 : Fin k0_t1_loop.trips) : Fin 5 → Nat :=
  let c2_i32 : BitVec 32 := 2#32
  let c0_i32_2 : BitVec 32 := 0#32
  let c1_i32 : BitVec 32 := 1#32
  let arg7 : BitVec 32 := Scf.iv c0_i32_2 c1_i32 k0_t1
  let v14 : BitVec 32 := Scalar.muli c2_i32 arg7
  let v15 : Index := Scalar.indexCast v14
  let c0_7 : Index := 0#32
  let c0_8 : Index := 0#32
  let c0_9 : Index := 0#32
  let c0_10 : Index := 0#32
  ![v15.toNat, 0, 0, 0, 0]
def k0_off2 (k0_t1 : Fin k0_t1_loop.trips) : Fin 3 → Nat :=
  let c2_i32_16 : BitVec 32 := 2#32
  let c0_i32_2 : BitVec 32 := 0#32
  let c1_i32 : BitVec 32 := 1#32
  let arg7 : BitVec 32 := Scf.iv c0_i32_2 c1_i32 k0_t1
  let v38 : BitVec 32 := Scalar.muli c2_i32_16 arg7
  let v39 : Index := Scalar.indexCast v38
  let c0_17 : Index := 0#32
  let c0_18 : Index := 0#32
  ![v39.toNat, 0, 0]
def k0_off3 (k0_t1 : Fin k0_t1_loop.trips) : Fin 3 → Nat :=
  let c0_24 : Index := 0#32
  let c0_i32_2 : BitVec 32 := 0#32
  let c1_i32 : BitVec 32 := 1#32
  let arg7 : BitVec 32 := Scf.iv c0_i32_2 c1_i32 k0_t1
  let v58 : Index := Scalar.indexCast arg7
  let c0_25 : Index := 0#32
  ![0, v58.toNat, 0]
def k0_cond2 (i : grid0.Coords) : BitVec 1 :=
  let arg0 : BitVec 32 := BitVec.ofNat 32 (i 0).val
  let c31_i32 : BitVec 32 := 31#32
  let v11 : BitVec 1 := Scalar.cmpi .eq arg0 c31_i32
  let v12 : BitVec 32 := Scalar.extui v11
  let c0_i32_6 : BitVec 32 := 0#32
  let v13 : BitVec 1 := Scalar.cmpi .ne v12 c0_i32_6
  v13

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3x14x16x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_k" => some ((768⁻¹ : ℝ) : EReal)
  | _ => none
-- ==== ReferenceIdeal.lean ====
abbrev S256x3x224x224 : Shape := ⟨4, ![256, 3, 224, 224]⟩
abbrev S256x196x768 : Shape := ⟨3, ![256, 196, 768]⟩
abbrev S256x196 : Shape := ⟨2, ![256, 196]⟩
abbrev S_ : Shape := ⟨0, ![]⟩
abbrev S256x3x14x16x14x16 : Shape := ⟨6, ![256, 3, 14, 16, 14, 16]⟩
abbrev S256x14x14x16x16x3 : Shape := ⟨6, ![256, 14, 14, 16, 16, 3]⟩
abbrev S256x196x1 : Shape := ⟨3, ![256, 196, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S256x196x768, .f32⟩
  | .hbm, ⟨2, _⟩ => ⟨S256x196, .f32⟩
  | .hbm, ⟨3, _⟩ => ⟨S_, .f32⟩
  | .hbm, ⟨4, _⟩ => ⟨S_, .f32⟩
  | .hbm, ⟨5, _⟩ => ⟨S256x3x14x16x14x16, .f32⟩
  | .hbm, ⟨6, _⟩ => ⟨S256x14x14x16x16x3, .f32⟩
  | .hbm, ⟨7, _⟩ => ⟨S256x196x768, .f32⟩
  | .hbm, ⟨8, _⟩ => ⟨S_, .f32⟩
  | .hbm, ⟨9, _⟩ => ⟨S256x196, .f32⟩
  | .hbm, ⟨10, _⟩ => ⟨S256x196x1, .f32⟩
  | .hbm, ⟨11, _⟩ => ⟨S_, .f32⟩
  | .hbm, ⟨12, _⟩ => ⟨S256x196x1, .f32⟩
  | .hbm, ⟨13, _⟩ => ⟨S256x196x1, .f32⟩
  | .hbm, ⟨14, _⟩ => ⟨S_, .i32⟩
  | .hbm, ⟨15, _⟩ => ⟨S_, .f32⟩
  | .hbm, ⟨16, _⟩ => ⟨S256x196, .f32⟩
  | .hbm, ⟨17, _⟩ => ⟨S256x196x1, .f32⟩
  | .hbm, ⟨18, _⟩ => ⟨S_, .f32⟩
  | .hbm, ⟨19, _⟩ => ⟨S256x196x1, .f32⟩
  | .hbm, ⟨20, _⟩ => ⟨S256x196x1, .f32⟩
  | .hbm, ⟨21, _⟩ => ⟨S256x196x768, .f32⟩
  | .hbm, ⟨22, _⟩ => ⟨S256x196x768, .f32⟩
  | .hbm, ⟨23, _⟩ => ⟨S256x196x768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256x196, .f32⟩
  | .hbm, ⟨29, _⟩ => ⟨S256x196x1, .f32⟩
  | .hbm, ⟨30, _⟩ => ⟨S256x196x1, .f32⟩
  | .hbm, ⟨31, _⟩ => ⟨S256x196x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S256x196x1, .f32⟩
  | .hbm, ⟨37, _⟩ => ⟨S256x196x1, .f32⟩
  | .hbm, ⟨38, _⟩ => ⟨S256x196x768, .f32⟩
  | .hbm, ⟨39, _⟩ => ⟨S256x196x768, .f32⟩
  | .hbm, ⟨40, _⟩ => ⟨S_, .f32⟩
  | .hbm, ⟨41, _⟩ => ⟨S256x196x1, .f32⟩
  | .hbm, ⟨42, _⟩ => ⟨S256x196x1, .f32⟩
  | .hbm, ⟨43, _⟩ => ⟨S_, .f32⟩
  | .hbm, ⟨44, _⟩ => ⟨S256x196x1, .f32⟩
  | .hbm, ⟨45, _⟩ => ⟨S256x196x1, .f32⟩
  | .hbm, ⟨46, _⟩ => ⟨S256x196x768, .f32⟩
  | .hbm, ⟨47, _⟩ => ⟨S256x196x768, .f32⟩
  | .hbm, ⟨48, _⟩ => ⟨S256x196x768, .f32⟩
  | .hbm, ⟨49, _⟩ => ⟨S256x196x768, .f32⟩
  | .hbm, ⟨50, _⟩ => ⟨S_, .f32⟩
  | .hbm, ⟨51, _⟩ => ⟨S256x196, .f32⟩
  | .hbm, ⟨52, _⟩ => ⟨S_, .f32⟩
  | .hbm, ⟨53, _⟩ => ⟨S256x196, .f32⟩
  | .hbm, ⟨54, _⟩ => ⟨S256x196, .f32⟩
  | .hbm, ⟨55, _⟩ => ⟨S256x196, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1x1, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_cst_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Consts.lean ====
/- The float constants the two idealized programs spell, as the real numbers their patterns denote. -/
module

public import Idealize.ShloMosaic.PureOps.Ideal

@[expose] public section

noncomputable section

namespace Cert.Proof.Consts

open Idealize.ShloMosaic

/-- The pattern of `768.0` denotes the real number 768. -/
theorem ofBits_768 : Ideal.ofBits .f32 0x44400000#32 = ((768 : ℝ) : EReal) := by
  simp [Ideal.ofBits, Ideal.ieee, -EReal.coe_mul]; norm_num

/-- The pattern of `767.0` denotes the real number 767. -/
theorem ofBits_767 : Ideal.ofBits .f32 0x443FC000#32 = ((767 : ℝ) : EReal) := by
  simp [Ideal.ofBits, Ideal.ieee, -EReal.coe_mul]; norm_num

/-- The pattern of `0.5` denotes one half. -/
theorem ofBits_half : Ideal.ofBits .f32 0x3F000000#32 = ((1 / 2 : ℝ) : EReal) := by
  simp [Ideal.ofBits, Ideal.ieee, -EReal.coe_mul]; norm_num

/-- The pattern of `+∞` denotes the top element. -/
theorem ofBits_inf : Ideal.ofBits .f32 0x7F800000#32 = ⊤ := by
  simp [Ideal.ofBits, Ideal.ieee, -EReal.coe_mul]

/-- The pattern of zero denotes zero. -/
theorem ofBits_zero : Ideal.ofBits .f32 0x00000000#32 = 0 := by
  simp [Ideal.ofBits, Ideal.ieee, -EReal.coe_mul]

/-- The real number that the pattern of the programs' `1e-6` denotes. -/
def eps : ℝ := 8796093 / 2 ^ 43

/-- The pattern of the programs' `1e-6` denotes `eps`. -/
theorem ofBits_eps : Ideal.ofBits .f32 0x358637BD#32 = (eps : EReal) := by
  unfold eps
  simp [Ideal.ofBits, Ideal.ieee, -EReal.coe_mul]; norm_num

/-- `eps` is positive. -/
theorem eps_pos : 0 < eps := by unfold eps; norm_num

end Cert.Proof.Consts

end
-- ==== Proof.Row.lean ====
/- The equation of one patch row. The kernel's row loss, over the pixels in (channel, row, column) order with the
   one-pass variance and the reciprocal square root, is the reference's row loss, over the pixels in
   (row, column, channel) order with the two-pass variance and the power one half, when every pixel is a real
   number. The predictions may be any extended reals. -/
module

public import proofs.«01_k».proof.Proof.Consts
public import Mathlib.Algebra.Order.BigOperators.Ring.Finset

@[expose] public section

noncomputable section

namespace Cert.Proof.Row

open Idealize.ShloMosaic Cert.Proof.Consts

/-- Where position `j` of the (channel, row, column) order stands in the (row, column, channel) order. -/
def sg (j : Fin 768) : Fin 768 := ⟨3 * (j.val % 256) + j.val / 256, by have := j.isLt; omega⟩

/-- Where position `j` of the (row, column, channel) order stands in the (channel, row, column) order. -/
def sgInv (j : Fin 768) : Fin 768 := ⟨256 * (j.val % 3) + j.val / 3, by have := j.isLt; omega⟩

/-- `sg` undoes `sgInv`. -/
theorem sg_sgInv (j : Fin 768) : sg (sgInv j) = j := by
  apply Fin.ext
  have := j.isLt
  simp only [sg, sgInv]
  omega

/-- `sgInv` undoes `sg`. -/
theorem sgInv_sg (j : Fin 768) : sgInv (sg j) = j := by
  apply Fin.ext
  have := j.isLt
  simp only [sg, sgInv]
  omega

/-- `sg` is a bijection. -/
theorem sg_bijective : Function.Bijective sg :=
  Function.bijective_iff_has_inverse.mpr ⟨sgInv, sgInv_sg, sg_sgInv⟩

/-- The row loss as the kernel computes it, of the row's pixels `T` and its rearranged predictions `Q`. -/
def kRow (T Q : Fin 768 → EReal) : EReal :=
  ∑ x, (Q x - (T x - (∑ y, T y) * ((768⁻¹ : ℝ) : EReal))
      * Ideal.rsqrt (Ideal.div (∑ y, T y * T y - (∑ y, T y) * ((∑ y, T y) * ((768⁻¹ : ℝ) : EReal))) ((767 : ℝ) : EReal) + (eps : EReal)))
    * (Q x - (T x - (∑ y, T y) * ((768⁻¹ : ℝ) : EReal))
      * Ideal.rsqrt (Ideal.div (∑ y, T y * T y - (∑ y, T y) * ((∑ y, T y) * ((768⁻¹ : ℝ) : EReal))) ((767 : ℝ) : EReal) + (eps : EReal)))

/-- A pixel less its row's mean, as the reference computes it. -/
def ctr (T : Fin 768 → EReal) (x : Fin 768) : EReal := T x - Ideal.div (∑ y, T y) ((768 : ℝ) : EReal)

/-- The row loss as the reference computes it, of the row's pixels `T` and its predictions `Q`. -/
def rRow (T Q : Fin 768 → EReal) : EReal :=
  ∑ x, (Q x - Ideal.div (ctr T x)
      (Ideal.pow (Ideal.div (∑ y, ctr T y * ctr T y) ((767 : ℝ) : EReal) + (eps : EReal)) ((1 / 2 : ℝ) : EReal)))
    * (Q x - Ideal.div (ctr T x)
      (Ideal.pow (Ideal.div (∑ y, ctr T y * ctr T y) ((767 : ℝ) : EReal) + (eps : EReal)) ((1 / 2 : ℝ) : EReal)))

/-- A finite sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The one-pass sum of squared deviations is the two-pass one, over the reals. -/
theorem sq_dev (t : Fin 768 → ℝ) :
    (∑ y, t y * t y) - (∑ y, t y) * ((∑ y, t y) * 768⁻¹)
      = ∑ y, (t y - (∑ z, t z) * (1 / 768)) * (t y - (∑ z, t z) * (1 / 768)) := by
  have h : ∀ y, (t y - (∑ z, t z) * (1 / 768)) * (t y - (∑ z, t z) * (1 / 768))
      = t y * t y - 2 * ((∑ z, t z) * (1 / 768)) * t y + ((∑ z, t z) * (1 / 768)) * ((∑ z, t z) * (1 / 768)) := by
    intro y; ring
  simp only [h]
  rw [Finset.sum_add_distrib, Finset.sum_sub_distrib, ← Finset.mul_sum, Finset.sum_const, Finset.card_univ,
    Fintype.card_fin, nsmul_eq_mul]
  push_cast
  ring

/-- The kernel's normalised pixel is the reference's: the deviation times the reciprocal root of a positive number is
    the deviation over that number's power one half. -/
theorem scale_eq (d v : ℝ) (hv : 0 < v) :
    (d : EReal) * Ideal.rsqrt (v : EReal) = Ideal.div (d : EReal) (Ideal.pow (v : EReal) ((1 / 2 : ℝ) : EReal)) := by
  have hs : Real.rpow v (1 / 2) = Real.sqrt v := (Real.sqrt_eq_rpow v).symm
  rw [Ideal.rsqrt_coe, if_neg (not_lt.mpr hv.le), if_neg hv.ne', Ideal.pow_coe_coe, hs,
    Ideal.div_coe (Real.sqrt_pos.mpr hv).ne', one_div]

/-- The kernel's row loss, of the pixels and the predictions read in (channel, row, column) order, is the reference's
    row loss of the same row in (row, column, channel) order, when the pixels are real numbers. -/
theorem kRow_eq (T Q : Fin 768 → EReal) (hT : ∀ x, ∃ r : ℝ, T x = r) :
    kRow (fun x => T (sg x)) (fun x => Q (sg x)) = rRow T Q := by
  choose t ht using hT
  obtain rfl : T = fun x => (t x : EReal) := funext ht
  have e1 : ∑ y, ((t (sg y) : ℝ) : EReal) = ((∑ y, t y : ℝ) : EReal) := by
    rw [coe_sum]; exact sg_bijective.sum_comp fun y => ((t y : ℝ) : EReal)
  have e2 : ∑ y, ((t (sg y) : ℝ) : EReal) * ((t (sg y) : ℝ) : EReal) = ((∑ y, t y * t y : ℝ) : EReal) := by
    rw [coe_sum]
    simp only [EReal.coe_mul]
    exact sg_bijective.sum_comp fun y => ((t y : ℝ) : EReal) * ((t y : ℝ) : EReal)
  have e3 : ∀ y, ctr (fun x => (t x : EReal)) y = ((t y - (∑ z, t z) * (1 / 768) : ℝ) : EReal) := by
    intro y
    unfold ctr
    rw [← coe_sum, Ideal.div_coe (by norm_num : (768 : ℝ) ≠ 0), EReal.coe_sub, EReal.coe_mul]
  have e4 : ∑ y, ctr (fun x => (t x : EReal)) y * ctr (fun x => (t x : EReal)) y
      = ((∑ y, t y * t y) - (∑ y, t y) * ((∑ y, t y) * 768⁻¹) : ℝ) := by
    rw [sq_dev, coe_sum]
    exact Finset.sum_congr rfl fun y _ => by rw [e3, EReal.coe_mul]
  have hv : 0 < ((∑ y, t y * t y) - (∑ y, t y) * ((∑ y, t y) * 768⁻¹)) * (1 / 767) + eps := by
    have h0 : 0 ≤ (∑ y, t y * t y) - (∑ y, t y) * ((∑ y, t y) * 768⁻¹) := by
      rw [sq_dev]; exact Finset.sum_nonneg fun y _ => mul_self_nonneg _
    have := eps_pos
    positivity
  have e5 : ∀ y, ((t y : ℝ) : EReal) - ((∑ z, t z : ℝ) : EReal) * ((768⁻¹ : ℝ) : EReal)
      = ((t y - (∑ z, t z) * (1 / 768) : ℝ) : EReal) := by
    intro y
    rw [EReal.coe_sub, EReal.coe_mul, one_div]
  unfold kRow rRow
  simp only [e1, e2, e4, e5]
  simp only [e3]
  rw [← EReal.coe_mul, ← EReal.coe_mul, ← EReal.coe_sub, Ideal.div_coe (by norm_num : (767 : ℝ) ≠ 0), ← EReal.coe_mul,
    ← EReal.coe_add]
  simp only [scale_eq _ _ hv]
  generalize Ideal.pow _ _ = p
  exact sg_bijective.sum_comp fun x => (Q x - Ideal.div ((t x - (∑ z, t z) * (1 / 768) : ℝ) : EReal) p)
    * (Q x - Ideal.div ((t x - (∑ z, t z) * (1 / 768) : ℝ) : EReal) p)

end Cert.Proof.Row

end
-- ==== Proof.Perm.lean ====
/- The matrix the kernel builds: a single one in each column, at the row where the column's pixel stands in the
   predictions' order. -/
module

public import proofs.«01_k».proof.Proof.Gen.KernelIdeal.Value
public import Idealize.ShloMosaic.Lib.Pointwise
public import proofs.«01_k».proof.Proof.Row

@[expose] public section

set_option maxRecDepth 16384

noncomputable section

namespace Cert.Proof.Perm

open Cert.KernelIdeal Cert.KernelIdeal.Gen Idealize.ShloMosaic Idealize.ShloMosaic.TcCoe Idealize.SL.Sem
open Cert.Proof.Row

/-- The row, as the kernel's 32-bit arithmetic spells it, that holds column `n`'s one: three times the remainder of `n` by
    256 (the divisor's sign taken), and the quotient (rounded down). -/
def word (n : ℕ) : BitVec 32 :=
  IntOp.addi
    (IntOp.muli (3#32)
      (Scalar.select
        (IntOp.andi
          (IntOp.xori
            (IntOp.cmpi CmpIPredicate.slt
              (IntOp.remsi ArithUnit.vector (BitVec.ofNat 32 n)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 n)
              (Scalar.select (Scalar.cmpi CmpIPredicate.eq 256#32 0#32) 1#32 256#32))
            0#32))
        (IntOp.addi
          (IntOp.remsi ArithUnit.vector (BitVec.ofNat 32 n)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 n)
          (Scalar.select (Scalar.cmpi CmpIPredicate.eq 256#32 0#32) 1#32 256#32))))
    (Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 n) 256#32) 0#32))
      (IntOp.subi (IntOp.divsi ArithUnit.vector (BitVec.ofNat 32 n) 256#32) 1#32)
      (IntOp.divsi ArithUnit.vector (BitVec.ofNat 32 n) 256#32))

/-- On the 768 columns the 32-bit row is the place `sg` names. -/
theorem word_eq : ∀ j : Fin 768, word j.val = BitVec.ofNat 32 (sg j).val := by decide +kernel

/-- Two numbers below 768 with the same 32-bit pattern are equal. -/
theorem ofNat_inj (k j : Fin 768) (h : BitVec.ofNat 32 k.val = BitVec.ofNat 32 j.val) : k = j := by
  have h2 := congrArg BitVec.toNat h
  simp only [BitVec.toNat_ofNat] at h2
  exact Fin.ext (by have := k.isLt; have := j.isLt; omega)

/-- Unequal words compare as unequal. -/
theorem cmp_ne (a b : BitVec 32) (h : ¬ a = b) : IntOp.cmpi .eq a b = 0#1 := by
  have h' : (a == b) = false := beq_eq_false_iff_ne.mpr h
  simp [IntOp.cmpi, h']

/-- The stored matrix at row `k`, column `j`. -/
theorem pay1_at (k j : Fin 768) :
    k0_pay1 (F := Ideal) (iota Kind.tc S768x768 32 [0] iota_S768x768_d0_w32) k0_pay8 k0_pay9 k0_pay10 k0_pay11 k0_pay12 (ix2 k j)
      = if k = sg j then 1 else 0 := by
  have h := word_eq j
  pointwise [k0_pay1, k0_pay8, k0_pay9, k0_pay10, k0_pay11, k0_pay12]
  unfold word at h
  rw [h]
  by_cases e : k = sg j
  · simp [e, Scalar.select, IntOp.cmpi]
  · have hne : ¬ BitVec.ofNat 32 k.val = BitVec.ofNat 32 (sg j).val := fun hh => e (ofNat_inj _ _ hh)
    rw [cmp_ne _ _ hne]
    simp [e, Scalar.select]

/-- A row times the matrix picks, in column `x`, the row's entry at `sg x`. -/
theorem sum_pick (Q : Fin 768 → EReal) (x : Fin 768) : ∑ k, Q k * (if k = sg x then 1 else 0) = Q (sg x) := by
  rw [Finset.sum_eq_single (sg x)]
  · simp
  · intro b _ hb; simp [hb]
  · intro h; exact absurd (Finset.mem_univ _) h

end Cert.Proof.Perm

end
-- ==== Proof.Block.lean ====
/- What one grid point adds: the counted loop's four trips over the point's blocks, each trip adding the masked losses
   of 392 patches to the first carried number and their mask entries to the second. -/
module

public import proofs.«01_k».proof.Proof.Perm
public import Idealize.ShloMosaic.Lib.Pipeline.ValueKit
public import Idealize.ShloMosaic.Lib.Pipeline.ReadBack

@[expose] public section

set_option maxRecDepth 16384

noncomputable section

namespace Cert.Proof.Block

open Cert.KernelIdeal Cert.KernelIdeal.Gen Idealize.ShloMosaic Idealize.ShloMosaic.TcCoe Idealize.SL.Sem
open Cert.Proof.Consts Cert.Proof.Row Cert.Proof.Perm

/-- The named constant is the reciprocal of 768. -/
theorem inv_k : Named.named (F := Ideal) κ "inv_k" (φ := .f32) 0x3AAAAAAB#32 = ((768⁻¹ : ℝ) : EReal) :=
  IdealRules.named_const.ideal_named_scalar _ _ _ _ rfl

/-- The pixel of the block's image `b` at position `x` of patch `l`, in (channel, row, column) order. -/
def pix {B : ℕ} (X : (⟨5, ![B, 3, 14, 16, 224]⟩ : Shape).Idx → EReal) (b : Fin B) (l : Fin 196) (x : Fin 768) : EReal :=
  X (ix5 b ⟨x.val / 256, by omega⟩ ⟨l.val / 14, by omega⟩ ⟨x.val / 16 % 16, by omega⟩ ⟨l.val % 14 * 16 + x.val % 16, by omega⟩)

/-- A row times a matrix with a single one in each column `x`, at row `sg x`, is the row rearranged by `sg`. -/
theorem pick (W : (⟨2, ![768, 768]⟩ : Shape).Idx → EReal) (h : ∀ k j : Fin 768, W (ix2 k j) = if k = sg j then 1 else 0) (Q : Fin 768 → EReal) :
    (fun x => ∑ k, Q k * W (ix2 k x)) = fun x => Q (sg x) := by
  funext x
  simp only [h]
  exact sum_pick Q x

/-- The pixels of row `r` of a trip's 392, the row's number split as the kernel's reshapes split it. -/
theorem pix_row (X : (⟨5, ![2, 3, 14, 16, 224]⟩ : Shape).Idx → EReal) (r : Fin 392) :
    pix X ⟨r.val / 196, by omega⟩ ⟨r.val % 196, by omega⟩ = fun x : Fin 768 =>
      X (ix5 ⟨r.val / 196, by omega⟩ ⟨x.val / 256, by omega⟩ ⟨r.val / 14 % 14, by omega⟩ ⟨x.val / 16 % 16, by omega⟩
        ⟨r.val % 14 * 16 + x.val % 16, by omega⟩) := by
  have q1 : r.val % 196 / 14 = r.val / 14 % 14 := by omega
  have q2 : r.val % 196 % 14 = r.val % 14 := by omega
  funext x
  unfold pix
  simp only [q1, q2]

/-- A trip's losses, before their division by 768: the row loss of each of its 392 patches. -/
theorem pay13_at (v16 : Vec Ideal S2x3x14x16x224 .f32) (v40 : Vec Ideal S2x196x768 .f32) (v43 : Vec Ideal S768x768 .bf16)
    (h : ∀ k j : Fin 768, v43 (ix2 k j) = (if k = sg j then 1 else 0 : EReal)) (r : Fin 392) :
    k0_pay13 v16 v40 v43 (ix1 r)
      = kRow (pix (B := 2) v16 ⟨r.val / 196, by omega⟩ ⟨r.val % 196, by omega⟩)
          (fun x => v40 (ix3 ⟨r.val / 196, by omega⟩ ⟨r.val % 196, by omega⟩ (sg x))) := by
  pointwise [k0_pay13]
  rw [inv_k, ofBits_767, ofBits_eps]
  refine Eq.trans ?_ (congrArg₂ kRow (pix_row v16 r).symm (pick v43 h (fun k => v40 (ix3 ⟨r.val / 196, by omega⟩ ⟨r.val % 196, by omega⟩ k))))
  rfl

/-- The first carried number after a trip. -/
theorem pay3_at (a : EReal) (v55 : FVec Ideal S392 .f32) (v59 : Vec Ideal S1x1x392 .f32) :
    k0_pay3 (F := Ideal) a v55 v59 = (a + ∑ r : Fin 392, v55 (ix1 r) * ((768⁻¹ : ℝ) : EReal) * v59 (ix3 0 0 r) : EReal) := by
  pointwise [k0_pay3, k0_pay2]
  rw [inv_k]

/-- The second carried number after a trip. -/
theorem pay4_at (a : EReal) (v59 : Vec Ideal S1x1x392 .f32) :
    k0_pay4 (F := Ideal) a v59 = (a + ∑ r : Fin 392, v59 (ix3 0 0 r) : EReal) := by
  pointwise [k0_pay4, k0_pay2]

/-- What trip `k` adds to the first carried number, of the point's blocks of images, predictions and mask. -/
def numT (x1 : Vec Ideal S8x3x14x16x224 .f32) (x2 : Vec Ideal S8x196x768 .f32) (x3 : Vec Ideal S1x4x392 .f32) (k : Fin 4) : EReal :=
  ∑ r : Fin 392, kRow (pix (B := 8) x1 ⟨2 * k.val + r.val / 196, by omega⟩ ⟨r.val % 196, by omega⟩)
      (fun x => x2 (ix3 ⟨2 * k.val + r.val / 196, by omega⟩ ⟨r.val % 196, by omega⟩ (sg x)))
    * ((768⁻¹ : ℝ) : EReal) * x3 (ix3 0 k r)

/-- What trip `k` adds to the second carried number. -/
def denT (x3 : Vec Ideal S1x4x392 .f32) (k : Fin 4) : EReal := ∑ r : Fin 392, x3 (ix3 0 k r)

/-- A trip's images: blocks `2k` and `2k + 1` of the point's eight. -/
theorem ld1 (x1 : Vec Ideal S8x3x14x16x224 .f32) (n : ℕ) (k : Fin 4) (hn : n = 2 * k.val) (inb) (b : Fin 2) (l : Fin 196) (x : Fin 768) :
    pix (B := 2) (View.ld x1 (Rect.unit ![n, 0, 0, 0, 0] ![2, 3, 14, 16, 224] inb)) b l x
      = pix (B := 8) x1 ⟨2 * k.val + b.val, by omega⟩ l x := by
  unfold pix
  refine View.ld_unit_apply_of _ _ _ _ _ _ fun a => ?_
  subst hn
  fin_cases a <;> simp [ix5]

/-- A trip's predictions: blocks `2k` and `2k + 1` of the point's eight. -/
theorem ld2 (x2 : Vec Ideal S8x196x768 .f32) (n : ℕ) (k : Fin 4) (hn : n = 2 * k.val) (inb) (b : Fin 2) (l : Fin 196) (x : Fin 768) :
    View.ld x2 (Rect.unit ![n, 0, 0] ![2, 196, 768] inb) (ix3 b l x) = x2 (ix3 ⟨2 * k.val + b.val, by omega⟩ l x) := by
  refine View.ld_unit_apply_of _ _ _ _ _ _ fun a => ?_
  subst hn
  fin_cases a <;> simp [ix3]

/-- A trip's mask entries: row `k` of the point's four. -/
theorem ld3 (x3 : Vec Ideal S1x4x392 .f32) (n : ℕ) (k : Fin 4) (hn : n = k.val) (inb) (r : Fin 392) :
    View.ld x3 (Rect.unit ![0, n, 0] ![1, 1, 392] inb) (ix3 0 0 r) = x3 (ix3 0 k r) := by
  refine View.ld_unit_apply_of _ _ _ _ _ _ fun a => ?_
  subst hn
  fin_cases a <;> simp [ix3]

/-- The whole matrix, loaded at offset zero. -/
theorem ld6 (x6 : Vec Ideal S768x768 .bf16) (inb) (i j : Fin 768) :
    View.ld x6 (Rect.unit ![0, 0] ![768, 768] inb) (ix2 i j) = x6 (ix2 i j) := by
  refine View.ld_unit_apply_of _ _ _ _ _ _ fun a => ?_
  fin_cases a <;> simp [ix2]

/-- The offset of a trip's images and predictions, as the kernel's 32-bit arithmetic computes it. -/
theorem off12 : ∀ k : Fin k0_t1_loop.trips,
    BitVec.toNat (Scalar.indexCast (Scalar.muli (2#32) (Scf.iv 0#32 1#32 k.val)) : Index) = 2 * k.val := by decide +kernel

/-- The offset of a trip's mask entries, as the kernel's 32-bit arithmetic computes it. -/
theorem off3 : ∀ k : Fin k0_t1_loop.trips,
    BitVec.toNat (Scalar.indexCast (Scf.iv 0#32 1#32 k.val : BitVec 32) : Index) = k.val := by decide +kernel

/-- The loop makes four trips. -/
theorem trips_eq : k0_t1_loop.trips = 4 := by decide +kernel

section Trip

variable (𝒱 : Variants) (c : Dev nD) (bd : Option 𝒱.V) (i : grid0.Coords)
  (arg1 : Memref sig .tc .vmem S8x3x14x16x224 .f32) (harg1 : arg1.IsWhole) (arg2 : Memref sig .tc .vmem S8x196x768 .f32) (harg2 : arg2.IsWhole)
  (arg3 : Memref sig .tc .vmem S1x4x392 .f32) (harg3 : arg3.IsWhole) (arg4 : Memref sig .tc .vmem S1x1 .f32) (harg4 : arg4.IsWhole)
  (arg5 : Memref sig .tc .smem S2 .f32) (harg5 : arg5.IsWhole) (arg6 : Memref sig .tc .vmem S768x768 .bf16) (harg6 : arg6.IsWhole)
  (X1 : BufTy.Contents (Elt Ideal) arg1.view.ty) (X2 : BufTy.Contents (Elt Ideal) arg2.view.ty)
  (X3 : BufTy.Contents (Elt Ideal) arg3.view.ty) (X6 : BufTy.Contents (Elt Ideal) arg6.view.ty)
  (x1 : Vec Ideal S8x3x14x16x224 .f32) (x2 : Vec Ideal S8x196x768 .f32) (x3 : Vec Ideal S1x4x392 .f32)
  (h1 : arg1.view.read (Elt Ideal) X1 = x1) (h2 : arg2.view.read (Elt Ideal) X2 = x2) (h3 : arg3.view.read (Elt Ideal) X3 = x3)
  (h6 : ∀ k j : Fin 768, arg6.view.read (Elt Ideal) X6 (ix2 k j) = (if k = sg j then 1 else 0 : EReal))

include h1 h2 h3 h6

/-- One trip adds `numT` and `denT` to the two carried numbers. -/
theorem trip_eq (k : Fin k0_t1_loop.trips) (a d : EReal) :
    tripR_k0_t1 (F := Ideal) 𝒱 c bd i arg1 harg1 arg2 harg2 arg3 harg3 arg4 harg4 arg5 harg5 arg6 harg6 X1 X2 X3 X6 k (a, d)
      = ((a + numT x1 x2 x3 (k.cast trips_eq) : EReal), (d + denT x3 (k.cast trips_eq) : EReal)) := by
  unfold tripR_k0_t1
  unfold trip_k0_t1
  dsimp only
  sl_unfold_words
  simp only [View.readAt_eq_ld, h1, h2, h3]
  rw [pay3_at, pay4_at]
  unfold numT denT
  have e3 := fun r => ld3 x3 _ (k.cast trips_eq) (off3 k) (k0_off3_inb k) r
  refine congrArg₂ Prod.mk (congrArg (a + ·) (Finset.sum_congr rfl fun r _ => ?_)) (congrArg (d + ·) (Finset.sum_congr rfl fun r _ => ?_))
  · refine congrArg₂ (· * ·) (congrArg (· * _) ((pay13_at _ _ _ (fun i j => (ld6 _ _ i j).trans (h6 i j)) r).trans ?_)) (e3 r)
    refine congrArg₂ kRow (funext fun x => ?_) (funext fun x => ?_)
    · exact ld1 x1 _ (k.cast trips_eq) (off12 k) _ _ _ _
    · exact ld2 x2 _ (k.cast trips_eq) (off12 k) _ _ _ _
  · exact e3 r

/-- The loop adds all four trips to the two carried numbers. -/
theorem loop_eq (a d : EReal) :
    st_k0_t1 (F := Ideal) 𝒱 c bd i arg1 harg1 arg2 harg2 arg3 harg3 arg4 harg4 arg5 harg5 arg6 harg6 X1 X2 X3 X6 (a, d) 4
      = ((a + ∑ k, numT x1 x2 x3 k : EReal), (d + ∑ k, denT x3 k : EReal)) := by
  have hs := fun (k : Fin k0_t1_loop.trips) => st_k0_t1_succ (F := Ideal) 𝒱 c bd i arg1 harg1 arg2 harg2 arg3 harg3 arg4 harg4
    arg5 harg5 arg6 harg6 X1 X2 X3 X6 (a, d) k
  have ht := trip_eq 𝒱 c bd i arg1 harg1 arg2 harg2 arg3 harg3 arg4 harg4 arg5 harg5 arg6 harg6 X1 X2 X3 X6 x1 x2 x3 h1 h2 h3 h6
  have s0 := hs (Fin.cast trips_eq.symm 0)
  have s1 := hs (Fin.cast trips_eq.symm 1)
  have s2 := hs (Fin.cast trips_eq.symm 2)
  have s3 := hs (Fin.cast trips_eq.symm 3)
  rw [show (Fin.cast trips_eq.symm 0).val = 0 from rfl, st_k0_t1_zero, ht] at s0
  rw [show (Fin.cast trips_eq.symm 1).val = 0 + 1 from rfl, s0, ht] at s1
  rw [show (Fin.cast trips_eq.symm 2).val = 0 + 1 + 1 from rfl, s1, ht] at s2
  rw [show (Fin.cast trips_eq.symm 3).val = 0 + 1 + 1 + 1 from rfl, s2, ht] at s3
  refine s3.trans ?_
  rw [Fin.sum_univ_four, Fin.sum_univ_four]
  simp only [← add_assoc]
  rfl

end Trip

end Cert.Proof.Block

end
-- ==== Proof.Reads.lean ====
/- What each grid point's blocks hold of the argument arrays. -/
module

public import proofs.«01_k».proof.Proof.Block
public import Idealize.ShloMosaic.Lib.Pipeline.ValueKit.Point

@[expose] public section

set_option maxRecDepth 16384

noncomputable section

namespace Cert.Proof.Reads

open Cert.KernelIdeal Cert.KernelIdeal.Gen Idealize.ShloMosaic Idealize.ShloMosaic.TcCoe Idealize.SL.Sem

variable (m : (ℓ : Loc nD τ sig) → Buf (Elt Ideal) ℓ) (c : Dev nD)

/-- The block each input window takes at point `t`: block `t` along the first axis, the whole of every other axis. -/
theorem idx : ∀ t : Fin cfg0.N, win0_0.index t = ![t.val, 0, 0, 0, 0] ∧ win0_1.index t = ![t.val, 0, 0] ∧ win0_2.index t = ![t.val, 0, 0] := by
  decide +kernel

/-- Point `t`'s block of images holds images `8t` to `8t + 7`, each cut into rows of patches. -/
theorem read0 (t : Fin cfg0.N) (n : Fin 256) (b : Fin 8) (hn : n.val = 8 * t.val + b.val) (ch : Fin 3) (p : Fin 14) (y : Fin 16) (x : Fin 224) :
    (iblk m c 0 t : Vec Ideal S8x3x14x16x224 .f32) (ix5 b ch p y x)
      = m ((c.tc : Thread nD τ).loc main_arg0) (ix4 n ch ⟨p.val * 16 + y.val, by omega⟩ x) := by
  blk_simp [iblk]
  entry_read
  pointwise
  refine congrArg (m ((c.tc : Thread nD τ).loc main_arg0)) ?_
  blk_ext [idx t]

/-- Point `t`'s block of predictions holds those of images `8t` to `8t + 7`. -/
theorem read1 (t : Fin cfg0.N) (n : Fin 256) (b : Fin 8) (hn : n.val = 8 * t.val + b.val) (l : Fin 196) (k : Fin 768) :
    (iblk m c 1 t : Vec Ideal S8x196x768 .f32) (ix3 b l k) = m ((c.tc : Thread nD τ).loc main_arg1) (ix3 n l k) := by
  blk_ext [iblk, V, idx t]

/-- Point `t`'s block of mask entries holds those of images `8t` to `8t + 7`, two images a row. -/
theorem read2 (t : Fin cfg0.N) (n : Fin 256) (k : Fin 4) (r : Fin 392) (hn : n.val = 8 * t.val + 2 * k.val + r.val / 196) :
    (iblk m c 2 t : Vec Ideal S1x4x392 .f32) (ix3 0 k r) = m ((c.tc : Thread nD τ).loc main_arg2) (ix2 n ⟨r.val % 196, by omega⟩) := by
  blk_simp [iblk]
  entry_read
  pointwise
  refine congrArg (m ((c.tc : Thread nD τ).loc main_arg2)) ?_
  blk_ext [idx t]

end Cert.Proof.Reads

end
-- ==== Proof.Points.lean ====
/- What the grid's points leave in the two accumulators and in the matrix: each point adds its trips' sums to the two
   numbers the point before left, the first point starting from zero, and the matrix stays as the first point built it. -/
module

public import proofs.«01_k».proof.Proof.Block

@[expose] public section

set_option maxRecDepth 16384

noncomputable section

namespace Cert.Proof.Points

open Cert.KernelIdeal Cert.KernelIdeal.Gen Idealize.ShloMosaic Idealize.ShloMosaic.TcCoe Idealize.SL.Sem
open Cert.Proof.Consts Cert.Proof.Row Cert.Proof.Perm Cert.Proof.Block

section Pieces

/-- Of two one-element stores to the accumulators, the second number's last, the second number reads the last store. -/
theorem canon_at1 (w1 w0 : EReal) (i1 i0) (L : List (View.Piece (Elt Ideal) S2 .f32)) :
    View.canon (Val := Elt Ideal) (e := .f32) ((⟨Rect.unit (s := S2) ![1] ![1] i1, fun _ => w1⟩ : View.Piece (Elt Ideal) S2 .f32)
      :: ⟨Rect.unit (s := S2) ![0] ![1] i0, fun _ => w0⟩ :: L) (ix1 1) = w1 := by
  have h : (ix1 1 : S2.Idx) = (Rect.unit (s := S2) ![1] ![1] i1).emb (ix1 0) := by
    funext a; apply Fin.ext; fin_cases a; rfl
  rw [h]
  exact View.canon_cons_emb _ _ _ _

/-- Of two one-element stores to the accumulators, the second number's last, the first number reads the first store. -/
theorem canon_at0 (w1 w0 : EReal) (i1 i0) (L : List (View.Piece (Elt Ideal) S2 .f32)) :
    View.canon (Val := Elt Ideal) (e := .f32) ((⟨Rect.unit (s := S2) ![1] ![1] i1, fun _ => w1⟩ : View.Piece (Elt Ideal) S2 .f32)
      :: ⟨Rect.unit (s := S2) ![0] ![1] i0, fun _ => w0⟩ :: L) (ix1 0) = w0 := by
  have hn : (ix1 0 : S2.Idx) ∉ (Rect.unit (s := S2) ![1] ![1] i1).set := by
    rw [Rect.mem_set_unit]
    intro hh
    have := (hh 0).1
    simp [ix1] at this
  rw [View.canon_cons_of_not_mem _ _ hn]
  have h : (ix1 0 : S2.Idx) = (Rect.unit (s := S2) ![0] ![1] i0).emb (ix1 0) := by
    funext a; apply Fin.ext; fin_cases a; rfl
  rw [h]
  exact View.canon_cons_emb _ _ _ _

/-- A load of the first accumulator. -/
theorem ld_at0 (X : Vec Ideal S2 .f32) (inb) (x) : View.ld X (Rect.unit (s := S2) ![0] ![1] inb) x = X (ix1 0) := by
  refine View.ld_unit_apply_of _ _ _ _ _ _ fun a => ?_
  have hx := (x a).isLt
  fin_cases a
  change (0 : ℕ) = 0 + (x 0).val
  change (x 0).val < 1 at hx
  omega

/-- A load of the second accumulator. -/
theorem ld_at1 (X : Vec Ideal S2 .f32) (inb) (x) : View.ld X (Rect.unit (s := S2) ![1] ![1] inb) x = X (ix1 1) := by
  refine View.ld_unit_apply_of _ _ _ _ _ _ fun a => ?_
  have hx := (x a).isLt
  fin_cases a
  change (1 : ℕ) = 1 + (x 0).val
  change (x 0).val < 1 at hx
  omega

/-- The first accumulator's sum. -/
theorem pay5_eq (s a : EReal) : k0_pay5 (F := Ideal) s a = (a + s : EReal) := rfl

/-- The second accumulator's sum. -/
theorem pay6_eq (s a : EReal) : k0_pay6 (F := Ideal) s a = (a + s : EReal) := rfl

/-- The matrix just stored whole, read back. -/
theorem mat_read (w : Vec Ideal S768x768 .bf16) (f) (inb) (k j : Fin 768) :
    View.read (Elt Ideal) (View.whole cc0_scratch1) ((View.whole cc0_scratch1).writes (Elt Ideal) f
      [⟨Rect.unit (s := S768x768) ![0, 0] ![768, 768] inb, w⟩]) (ix2 k j) = w (ix2 k j) := by
  have h : (ix2 k j : S768x768.Idx) = (Rect.unit (s := S768x768) ![0, 0] ![768, 768] inb).emb (ix2 k j) := by
    funext a; apply Fin.ext; fin_cases a
    · change k.val = 0 + 1 * k.val; omega
    · change j.val = 0 + 1 * j.val; omega
  refine (congrArg _ h).trans ?_
  exact View.read_writes_cons_emb _ _ _ _ _ _

/-- The loop starts from zero. -/
theorem zero_eq : (FloatOps.ofBits .f32 0x00000000#32 : Ideal .f32) = (0 : EReal) := ofBits_zero

/-- The loop's number of trips, as the kernel's arithmetic computes it. -/
theorem trips_word : Scf.trips (0#32) (Scalar.addi 0#32 4#32) 1#32 = 4 := by decide +kernel

end Pieces

variable (m : (ℓ : Loc nD τ sig) → Buf (Elt Ideal) ℓ) (c : Dev nD)

/-- The first accumulator after point `n`. -/
def num (n : ℕ) (h : n < cfg0.N) : EReal := (outsAt0 m c n h).2.1 (ix1 0)

/-- The second accumulator after point `n`. -/
def den (n : ℕ) (h : n < cfg0.N) : EReal := (outsAt0 m c n h).2.1 (ix1 1)

/-- The matrix after point `n` has its single ones at `sg`. -/
def IsPerm (n : ℕ) (h : n < cfg0.N) : Prop :=
  ∀ k j : Fin 768, (outsAt0 m c n h).2.2 (ix2 k j) = (if k = sg j then 1 else 0 : EReal)

/-- What point `t` adds to the first accumulator. -/
def numP (t : Fin cfg0.N) : EReal := ∑ k, numT (iblk m c 0 t) (iblk m c 1 t) (iblk m c 2 t) k

/-- What point `t` adds to the second accumulator. -/
def denP (t : Fin cfg0.N) : EReal := ∑ k, denT (iblk m c 2 t) k

/-- The first point builds the matrix. -/
theorem perm_A (t : Fin cfg0.N) (h0 : t.val % 32 = 0) (h1 : ¬t.val % 32 = 31) : IsPerm m c t.val t.isLt := by
  intro k j
  rw [outsAt0_A m c t h0 h1]; frame_out
  exact pay1_at k j

/-- A middle point leaves the matrix. -/
theorem perm_B (t : Fin cfg0.N) (h0 : ¬t.val % 32 = 0) (h1 : ¬t.val % 32 = 31)
    (hp : IsPerm m c (t.val - 1) (Nat.lt_of_le_of_lt (Nat.sub_le _ _) t.isLt)) : IsPerm m c t.val t.isLt := by
  intro k j
  rw [outsAt0_B m c t h0 h1]
  exact hp k j

/-- The last point leaves the matrix. -/
theorem perm_C (t : Fin cfg0.N) (h0 : ¬t.val % 32 = 0) (h1 : t.val % 32 = 31)
    (hp : IsPerm m c (t.val - 1) (Nat.lt_of_le_of_lt (Nat.sub_le _ _) t.isLt)) : IsPerm m c t.val t.isLt := by
  intro k j
  rw [outsAt0_C m c t h0 h1]
  exact hp k j

/-- After every point the matrix has its single ones at `sg`. -/
theorem perm_all : ∀ (n : ℕ) (h : n < cfg0.N), IsPerm m c n h
  | 0, h => perm_A m c ⟨0, h⟩ (by change 0 % 32 = 0; decide) (by change ¬ 0 % 32 = 31; decide)
  | n + 1, h => by
    have hN : n + 1 < 32 := lt_of_lt_of_eq h N_0
    by_cases h1 : (n + 1) % 32 = 31
    · exact perm_C m c ⟨n + 1, h⟩ (by change ¬ (n + 1) % 32 = 0; omega) h1 (perm_all n (Nat.lt_of_succ_lt h))
    · exact perm_B m c ⟨n + 1, h⟩ (by change ¬ (n + 1) % 32 = 0; omega) h1 (perm_all n (Nat.lt_of_succ_lt h))

/-- A middle point adds its sums to what the point before left. -/
theorem acc_B (t : Fin cfg0.N) (h0 : ¬t.val % 32 = 0) (h1 : ¬t.val % 32 = 31) :
    num m c t.val t.isLt = num m c (t.val - 1) (Nat.lt_of_le_of_lt (Nat.sub_le _ _) t.isLt) + numP m c t
    ∧ den m c t.val t.isLt = den m c (t.val - 1) (Nat.lt_of_le_of_lt (Nat.sub_le _ _) t.isLt) + denP m c t := by
  have hp := perm_all m c (t.val - 1) (Nat.lt_of_le_of_lt (Nat.sub_le _ _) t.isLt)
  unfold num den
  rw [outsAt0_B m c t h0 h1]; frame_out
  rw [canon_at0, canon_at1, trips_word, zero_eq, loop_eq (x1 := iblk m c 0 t) (x2 := iblk m c 1 t) (x3 := iblk m c 2 t) (h1 := Memref.IsWhole.read_unread _ _)
    (h2 := Memref.IsWhole.read_unread _ _) (h3 := Memref.IsWhole.read_unread _ _)
    (h6 := fun k j => (congrFun (Memref.IsWhole.read_unread _ _) (ix2 k j)).trans (hp k j))]
  rw [pay5_eq, pay6_eq, ld_at0, ld_at1, read_unread_whole, zero_add, zero_add]
  exact ⟨rfl, rfl⟩

/-- The last point adds its sums to what the point before left. -/
theorem acc_C (t : Fin cfg0.N) (h0 : ¬t.val % 32 = 0) (h1 : t.val % 32 = 31) :
    num m c t.val t.isLt = num m c (t.val - 1) (Nat.lt_of_le_of_lt (Nat.sub_le _ _) t.isLt) + numP m c t
    ∧ den m c t.val t.isLt = den m c (t.val - 1) (Nat.lt_of_le_of_lt (Nat.sub_le _ _) t.isLt) + denP m c t := by
  have hp := perm_all m c (t.val - 1) (Nat.lt_of_le_of_lt (Nat.sub_le _ _) t.isLt)
  unfold num den
  rw [outsAt0_C m c t h0 h1]; frame_out
  rw [canon_at0, canon_at1, trips_word, zero_eq, loop_eq (x1 := iblk m c 0 t) (x2 := iblk m c 1 t) (x3 := iblk m c 2 t) (h1 := Memref.IsWhole.read_unread _ _)
    (h2 := Memref.IsWhole.read_unread _ _) (h3 := Memref.IsWhole.read_unread _ _)
    (h6 := fun k j => (congrFun (Memref.IsWhole.read_unread _ _) (ix2 k j)).trans (hp k j))]
  rw [pay5_eq, pay6_eq, ld_at0, ld_at1, read_unread_whole, zero_add, zero_add]
  exact ⟨rfl, rfl⟩

/-- The last point writes the quotient of the two accumulators. -/
theorem out_C (t : Fin cfg0.N) (h0 : ¬t.val % 32 = 0) (h1 : t.val % 32 = 31) (j : S1x1.Idx) :
    (outsAt0 m c t.val t.isLt).1 j = Ideal.div (num m c t.val t.isLt) (den m c t.val t.isLt) := by
  rw [(acc_C m c t h0 h1).1, (acc_C m c t h0 h1).2]
  have hp := perm_all m c (t.val - 1) (Nat.lt_of_le_of_lt (Nat.sub_le _ _) t.isLt)
  rw [outsAt0_C m c t h0 h1]; frame_out
  rw [trips_word, zero_eq, loop_eq (x1 := iblk m c 0 t) (x2 := iblk m c 1 t) (x3 := iblk m c 2 t) (h1 := Memref.IsWhole.read_unread _ _)
    (h2 := Memref.IsWhole.read_unread _ _) (h3 := Memref.IsWhole.read_unread _ _)
    (h6 := fun k j => (congrFun (Memref.IsWhole.read_unread _ _) (ix2 k j)).trans (hp k j))]
  rw [pay5_eq, pay6_eq, ld_at0, ld_at1, read_unread_whole, zero_add, zero_add]
  pointwise [k0_pay7]
  rfl

/-- The first point leaves its sums. -/
theorem acc_A (t : Fin cfg0.N) (h0 : t.val % 32 = 0) (h1 : ¬t.val % 32 = 31) :
    num m c t.val t.isLt = 0 + numP m c t ∧ den m c t.val t.isLt = 0 + denP m c t := by
  have hp := perm_A m c t h0 h1
  unfold num den
  rw [outsAt0_A m c t h0 h1]; frame_out
  rw [canon_at0, canon_at1, trips_word, zero_eq, loop_eq (x1 := iblk m c 0 t) (x2 := iblk m c 1 t) (x3 := iblk m c 2 t) (h1 := Memref.IsWhole.read_unread _ _)
    (h2 := Memref.IsWhole.read_unread _ _) (h3 := Memref.IsWhole.read_unread _ _)
    (h6 := fun k j => (mat_read _ _ _ k j).trans (pay1_at k j))]
  rw [pay5_eq, pay6_eq]
  simp only [zero_add]
  exact ⟨rfl, rfl⟩

/-- After the last point the first accumulator holds the sum of what all the points add. -/
theorem num_total (h : 31 < cfg0.N) : num m c 31 h = ∑ t : Fin cfg0.N, numP m c t := by
  have e := Pipeline.eq_sum_fin_of_reset_step_last (num m c) 32 0 (fun t => numP m c t)
    (fun t ht => (acc_A m c t ht (by omega)).1)
    (fun t ht => by
      by_cases h1 : t.val % 32 = 31
      · exact (acc_C m c t ht h1).1
      · exact (acc_B m c t ht h1).1)
    (le_of_eq N_0) ⟨31, h⟩ N_0.symm
  rwa [zero_add] at e

/-- After the last point the second accumulator holds the sum of what all the points add. -/
theorem den_total (h : 31 < cfg0.N) : den m c 31 h = ∑ t : Fin cfg0.N, denP m c t := by
  have e := Pipeline.eq_sum_fin_of_reset_step_last (den m c) 32 0 (fun t => denP m c t)
    (fun t ht => (acc_A m c t ht (by omega)).2)
    (fun t ht => by
      by_cases h1 : t.val % 32 = 31
      · exact (acc_C m c t ht h1).2
      · exact (acc_B m c t ht h1).2)
    (le_of_eq N_0) ⟨31, h⟩ N_0.symm
  rwa [zero_add] at e

/-- The output array holds, after the run, the quotient of the two totals. -/
theorem out_total (j : S1x1.Idx) :
    Value.G3 m c j = Ideal.div (∑ t : Fin cfg0.N, numP m c t) (∑ t : Fin cfg0.N, denP m c t) := by
  have h : 31 < cfg0.N := lt_of_lt_of_eq (by decide) N_0.symm
  rw [Value.G3_last, ← Value.outsAt0_sweep m c 31 h, ← num_total m c h, ← den_total m c h]
  exact out_C m c ⟨31, h⟩ (by change ¬ 31 % 32 = 0; decide) (by change 31 % 32 = 31; decide) j

end Cert.Proof.Points

end
-- ==== Proof.RefValue.lean ====
/- What the reference computes: its result's composed term, cut into named stages, and each stage read at an index. -/
module

public import proofs.«01_k».proof.Proof.Gen.ReferenceIdeal.Run
public import Idealize.ShloMosaic.Lib.Pointwise
public import proofs.«01_k».proof.Proof.Row

@[expose] public section

set_option maxRecDepth 16384

noncomputable section

namespace Cert.Proof.RefValue

open Cert.ReferenceIdeal Cert.ReferenceIdeal.Gen Idealize.ShloMosaic Idealize.ShloMosaic.TcCoe Idealize.SL.Sem
open Cert.Proof.Consts Cert.Proof.Row

section Stages

variable {F : FTy → Type} [FloatOps F]

/-- The images cut into patches, each patch's pixels in (row, column, channel) order. -/
def tgt (I : FVec F S256x3x224x224 .f32) : FVec F S256x196x768 .f32 :=
  shapeCast _ (transpose S256x14x14x16x16x3 [0, 2, 4, 3, 5, 1] (shapeCast _ I shapeCasts_S256x3x224x224_S256x3x14x16x14x16)
    transposes_S256x3x14x16x14x16_S256x14x14x16x16x3_0_2_4_3_5_1) shapeCasts_S256x14x14x16x16x3_S256x196x768

/-- Each patch's mean pixel. -/
def mean (T : FVec F S256x196x768 .f32) : FVec F S256x196x1 .f32 :=
  Host.divf (broadcastInDim S256x196x1 ![0, 1] bcast_S256x196_S256x196x1_0_1
      (Host.reduceAdd T (constant S_ .f32 0x00000000#32) reducesTo_S256x196x768_S256x196_d2 h_S_))
    (broadcastInDim S256x196x1 ![] bcast_S_S256x196x1 (constant S_ .f32 0x44400000#32))

/-- Each pixel less its patch's mean. -/
def cent (T : FVec F S256x196x768 .f32) : FVec F S256x196x768 .f32 :=
  subf T (broadcastInDim S256x196x768 ![0, 1, 2] bcast_S256x196x1_S256x196x768_0_1_2 (mean T))

/-- The number of pixels of a patch, less one. -/
def dof : FVec F S_ .f32 := subf (constant S_ .f32 0x44400000#32) (sitofp .f32 (constantI S_ 32 1#32))

/-- Each patch's unbiased variance of the centred pixels `C`. -/
def var (C : FVec F S256x196x768 .f32) : FVec F S256x196x1 .f32 :=
  select (broadcastInDim S256x196x1 ![] bcast_S_S256x196x1 (cmpf .ogt dof (constant (F := F) S_ .f32 0x00000000#32)))
    (Host.divf (broadcastInDim S256x196x1 ![0, 1] bcast_S256x196_S256x196x1_0_1
        (Host.reduceAdd (mulf C C) (constant S_ .f32 0x00000000#32) reducesTo_S256x196x768_S256x196_d2 h_S_))
      (broadcastInDim S256x196x1 ![] bcast_S_S256x196x1 dof))
    (broadcastInDim S256x196x1 ![] bcast_S_S256x196x1 (id (constant S_ .f32 0x7FC00000#32)))

/-- Each patch's divisor, of its variance `V`: the root of the variance with the small constant added. -/
def std (V : FVec F S256x196x1 .f32) : FVec F S256x196x1 .f32 :=
  Host.powf (addf V (broadcastInDim S256x196x1 ![] bcast_S_S256x196x1 (constant S_ .f32 0x358637BD#32)))
    (broadcastInDim S256x196x1 ![] bcast_S_S256x196x1 (constant S_ .f32 0x3F000000#32))

/-- The predictions less the normalised pixels. -/
def err (P C : FVec F S256x196x768 .f32) (D : FVec F S256x196x1 .f32) : FVec F S256x196x768 .f32 :=
  subf P (Host.divf C (broadcastInDim S256x196x768 ![0, 1, 2] bcast_S256x196x1_S256x196x768_0_1_2 D))

/-- Each patch's mean squared error. -/
def loss (E : FVec F S256x196x768 .f32) : FVec F S256x196 .f32 :=
  Host.divf (Host.reduceAdd (mulf E E) (constant S_ .f32 0x00000000#32) reducesTo_S256x196x768_S256x196_d2 h_S_)
    (broadcastInDim S256x196 ![] bcast_S_S256x196 (constant S_ .f32 0x44400000#32))

/-- The masked losses' sum over the mask's sum. -/
def total (L M : FVec F S256x196 .f32) : FVec F S1x1 .f32 :=
  shapeCast _ (Host.divf
      (Host.reduceAdd (mulf L M) (constant S_ .f32 0x00000000#32) reducesTo_S256x196_S_d0_1 h_S_)
      (Host.reduceAdd M (constant S_ .f32 0x00000000#32) reducesTo_S256x196_S_d0_1 h_S_))
    shapeCasts_S_S1x1

/-- The reference's result term is the chain of the stages. -/
theorem res_eq (m : (ℓ : Loc nD τ sig) → Buf (Elt F) ℓ) (c : Dev nD) :
    Value.res_main_v25 m c
      = total (loss (err (m ((c.tc : Thread nD τ).loc main_arg1)) (cent (tgt (m ((c.tc : Thread nD τ).loc main_arg0))))
          (std (var (cent (tgt (m ((c.tc : Thread nD τ).loc main_arg0))))))))
        (m ((c.tc : Thread nD τ).loc main_arg2)) := rfl

end Stages

/-- The pixel of image `n` at position `k` of patch `l`, in the reference's order. -/
theorem tgt_at (I : FVec Ideal S256x3x224x224 .f32) (n : Fin 256) (l : Fin 196) (k : Fin 768) :
    tgt I (ix3 n l k) = I (ix4 n ⟨k.val % 3, by omega⟩ ⟨l.val / 14 * 16 + k.val / 48, by omega⟩
      ⟨l.val % 14 * 16 + k.val / 3 % 16, by omega⟩) := by
  pointwise [tgt]

/-- A centred pixel is the row's pixel less its mean. -/
theorem cent_at (T : FVec Ideal S256x196x768 .f32) (n : Fin 256) (l : Fin 196) (k : Fin 768) :
    cent T (ix3 n l k) = ctr (fun x => T (ix3 n l x)) k := by
  pointwise [cent, mean]
  rw [ofBits_768]
  rfl

/-- The number of pixels of a patch less one is 767. -/
theorem dof_eq : Ideal.ofBits .f32 0x44400000#32 - FloatOps.sitofp (F := Ideal) .f32 1#32 = ((767 : ℝ) : EReal) := by
  have h : FloatOps.sitofp (F := Ideal) .f32 1#32 = ((1 : ℝ) : EReal) := by
    change (((1#32 : BitVec 32).toInt : ℝ) : EReal) = ((1 : ℝ) : EReal)
    rw [show (1#32 : BitVec 32).toInt = 1 by decide, Int.cast_one]
  rw [ofBits_768, h, ← EReal.coe_sub]
  norm_num

/-- The variance of a patch. -/
theorem var_at (C : FVec Ideal S256x196x768 .f32) (n : Fin 256) (l : Fin 196) :
    var C (ix3 n l 0) = Ideal.div (∑ y : Fin 768, C (ix3 n l y) * C (ix3 n l y)) ((767 : ℝ) : EReal) := by
  pointwise [var, dof]
  rw [dof_eq, if_pos (by exact_mod_cast (by norm_num : (0 : ℝ) < 767))]

/-- The divisor of a patch. -/
theorem std_at (V : FVec Ideal S256x196x1 .f32) (n : Fin 256) (l : Fin 196) :
    std V (ix3 n l 0) = Ideal.pow (V (ix3 n l 0) + (eps : EReal)) ((1 / 2 : ℝ) : EReal) := by
  pointwise [std]
  rw [ofBits_eps, ofBits_half]

/-- The error at a pixel. -/
theorem err_at (P C : FVec Ideal S256x196x768 .f32) (D : FVec Ideal S256x196x1 .f32) (n : Fin 256) (l : Fin 196)
    (k : Fin 768) : err P C D (ix3 n l k) = P (ix3 n l k) - Ideal.div (C (ix3 n l k)) (D (ix3 n l 0)) := by
  pointwise [err]

/-- The loss of a patch. -/
theorem loss_at (E : FVec Ideal S256x196x768 .f32) (n : Fin 256) (l : Fin 196) :
    loss E (ix2 n l) = Ideal.div (∑ y : Fin 768, E (ix3 n l y) * E (ix3 n l y)) ((768 : ℝ) : EReal) := by
  pointwise [loss]
  rw [ofBits_768]

/-- The result. -/
theorem total_at (L M : FVec Ideal S256x196 .f32) (j : S1x1.Idx) :
    total L M j = Ideal.div (∑ n : Fin 256, ∑ l : Fin 196, L (ix2 n l) * M (ix2 n l))
      (∑ n : Fin 256, ∑ l : Fin 196, M (ix2 n l)) := by
  pointwise [total]

/-- The reference's loss of patch `l` of image `n`: the row loss over 768. -/
theorem loss_row (I : FVec Ideal S256x3x224x224 .f32) (P : FVec Ideal S256x196x768 .f32) (n : Fin 256) (l : Fin 196) :
    loss (err P (cent (tgt I)) (std (var (cent (tgt I))))) (ix2 n l)
      = Ideal.div (rRow (fun x => tgt I (ix3 n l x)) (fun x => P (ix3 n l x))) ((768 : ℝ) : EReal) := by
  simp only [loss_at, err_at, std_at, var_at, cent_at]
  rfl

end Cert.Proof.RefValue

end
-- ==== Proof.Equation.lean ====
/- The equation: the kernel's result is the reference's, entry by entry. -/
module

public import proofs.«01_k».proof.Proof.Reads
public import proofs.«01_k».proof.Proof.Points
public import proofs.«01_k».proof.Proof.RefValue
public import Idealize.ShloMosaic.Lib.Pipeline.ValueKit.Acc

@[expose] public section

set_option maxRecDepth 16384

noncomputable section

namespace Cert.Proof.Equation

open Cert.KernelIdeal Cert.KernelIdeal.Gen Idealize.ShloMosaic Idealize.ShloMosaic.TcCoe Idealize.SL.Sem
open Cert.Proof.Row Cert.Proof.Block Cert.Proof.Points

/-- The image that row `r` of loop trip `k` of grid point `t` works on. -/
def img (t : Fin 32) (k : Fin 4) (r : Fin 392) : Fin 256 := ⟨8 * t.val + 2 * k.val + r.val / 196, by omega⟩

/-- The patch that row `r` works on. -/
def patch (r : Fin 392) : Fin 196 := ⟨r.val % 196, by omega⟩

/-- Summing over points, loop trips and rows is summing over images and patches. -/
theorem sum_all (g : Fin 256 → Fin 196 → EReal) :
    ∑ t : Fin 32, ∑ k : Fin 4, ∑ r : Fin 392, g (img t k r) (patch r) = ∑ n : Fin 256, ∑ l : Fin 196, g n l := by
  have h1 : ∀ (t : Fin 32) (k : Fin 4), ∑ r : Fin 392, g (img t k r) (patch r)
      = ∑ s : Fin 2, ∑ l : Fin 196, g ⟨8 * t.val + 2 * k.val + s.val, by omega⟩ l := fun t k =>
    Fin.sum_divmod_fin (N := 392) (A := 2) 196 (fun (s : Fin 2) (l : Fin 196) => g ⟨8 * t.val + 2 * k.val + s.val, by omega⟩ l)
  have h2 : ∀ t : Fin 32, ∑ k : Fin 4, ∑ r : Fin 392, g (img t k r) (patch r)
      = ∑ q : Fin 8, ∑ l : Fin 196, g ⟨t.val * 8 + q.val, by omega⟩ l := fun t => by
    simp only [h1]
    refine Eq.trans ?_ (Fin.sum_mul_add_fin (L := 8) 4 2 (fun q : Fin 8 => ∑ l : Fin 196, g ⟨t.val * 8 + q.val, by omega⟩ l))
    refine Finset.sum_congr rfl fun k _ => Finset.sum_congr rfl fun s _ => Finset.sum_congr rfl fun l _ => ?_
    exact congrArg (fun n => g n l) (Fin.ext (by simp only; omega))
  simp only [h2]
  exact Fin.sum_mul_add_fin (L := 256) 32 8 (fun n : Fin 256 => ∑ l : Fin 196, g n l)

variable (m : (ℓ : Loc nD τ sig) → Buf (Elt Ideal) ℓ) (c : Dev nD)

/-- The images, the predictions and the mask the run starts from. -/
abbrev I0 : Vec Ideal S256x3x224x224 .f32 := m ((c.tc : Thread nD τ).loc main_arg0)
@[inherit_doc I0] abbrev P0 : Vec Ideal S256x196x768 .f32 := m ((c.tc : Thread nD τ).loc main_arg1)
@[inherit_doc I0] abbrev M0 : Vec Ideal S256x196 .f32 := m ((c.tc : Thread nD τ).loc main_arg2)

theorem sg_div3 (x : ℕ) (hx : x < 768) : (3 * (x % 256) + x / 256) % 3 = x / 256 ∧ (3 * (x % 256) + x / 256) / 48 = x / 16 % 16
    ∧ (3 * (x % 256) + x / 256) / 3 % 16 = x % 16 := by
  have h1 : (3 * (x % 256) + x / 256) / 3 = x % 256 := by omega
  have h2 : (3 * (x % 256) + x / 256) / 48 = (3 * (x % 256) + x / 256) / 3 / 16 := by rw [Nat.div_div_eq_div_mul]
  refine ⟨by omega, ?_, ?_⟩
  · have h3 : x / 16 = 16 * (x / 256) + x % 256 / 16 := by omega
    rw [h2, h1, h3]; omega
  · rw [h1]; omega

/-- A pixel of a row, in the kernel's order, is the reference's patch vector in the permuted order. -/
theorem pix_eq (t : Fin cfg0.N) (n : Fin 256) (b : Fin 8) (hn : n.val = 8 * t.val + b.val) (l : Fin 196) (x : Fin 768) :
    pix (B := 8) (iblk m c 0 t) b l x = RefValue.tgt (F := Ideal) (I0 m c) (ix3 n l (sg x)) := by
  rw [RefValue.tgt_at]
  unfold pix
  obtain ⟨h1, h2, h3⟩ := sg_div3 x.val x.isLt
  refine (Reads.read0 m c t n b hn _ _ _ _).trans (congrArg (I0 m c) ?_)
  congr 1 <;> apply Fin.ext <;> simp only [sg, h1, h2, h3]

/-- The per-patch loss of the reference. -/
def rLoss (n : Fin 256) (l : Fin 196) : EReal :=
  Ideal.div (rRow (fun x => RefValue.tgt (F := Ideal) (I0 m c) (ix3 n l x)) (fun x => P0 m c (ix3 n l x))) ((768 : ℝ) : EReal)

/-- One term of a loop trip's weighted sum is the reference's per-patch loss times its mask entry. -/
theorem term_eq (hI : ∀ i, ∃ r : ℝ, I0 m c i = r) (t : Fin cfg0.N) (n : Fin 256) (k : Fin 4) (r : Fin 392)
    (b : Fin 8) (hb : b.val = 2 * k.val + r.val / 196) (hn : n.val = 8 * t.val + 2 * k.val + r.val / 196) :
    kRow (pix (B := 8) (iblk m c 0 t) b (patch r)) (fun x => iblk m c 1 t (ix3 b (patch r) (sg x))) * ((768⁻¹ : ℝ) : EReal) * iblk m c 2 t (ix3 0 k r)
      = rLoss m c n (patch r) * M0 m c (ix2 n (patch r)) := by
  have hn' : n.val = 8 * t.val + b.val := by omega
  have hp : pix (B := 8) (iblk m c 0 t) b (patch r) = fun x => RefValue.tgt (F := Ideal) (I0 m c) (ix3 n (patch r) (sg x)) :=
    funext fun x => pix_eq m c t n b hn' (patch r) x
  have hq : (fun x => iblk m c 1 t (ix3 b (patch r) (sg x))) = fun x => P0 m c (ix3 n (patch r) (sg x)) :=
    funext fun x => Reads.read1 m c t n b hn' (patch r) (sg x)
  have hr : kRow (pix (B := 8) (iblk m c 0 t) b (patch r)) (fun x => iblk m c 1 t (ix3 b (patch r) (sg x)))
      = rRow (fun x => RefValue.tgt (F := Ideal) (I0 m c) (ix3 n (patch r) x)) (fun x => P0 m c (ix3 n (patch r) x)) := by
    refine (congrArg₂ kRow hp hq).trans (kRow_eq (fun x => RefValue.tgt (F := Ideal) (I0 m c) (ix3 n (patch r) x)) (fun x => P0 m c (ix3 n (patch r) x)) fun x => ?_)
    show ∃ s : ℝ, RefValue.tgt (F := Ideal) (I0 m c) (ix3 n (patch r) x) = s
    rw [RefValue.tgt_at]
    exact hI _
  have hm : iblk m c 2 t (ix3 0 k r) = M0 m c (ix2 n (patch r)) := Reads.read2 m c t n k r hn
  rw [hr, hm, rLoss, Ideal.div_coe (by norm_num), one_div]

/-- The numerators of the grid points add up to the masked loss of every patch of every image. -/
theorem num_eq (hI : ∀ i, ∃ r : ℝ, I0 m c i = r) :
    ∑ t : Fin cfg0.N, numP m c t = ∑ n : Fin 256, ∑ l : Fin 196, rLoss m c n l * M0 m c (ix2 n l) := by
  refine Eq.trans ?_ (sum_all fun n l => rLoss m c n l * M0 m c (ix2 n l))
  refine Finset.sum_congr rfl fun t _ => Finset.sum_congr rfl fun k _ => Finset.sum_congr rfl fun r _ => ?_
  exact term_eq m c hI t (img t k r) k r ⟨2 * k.val + r.val / 196, by omega⟩ rfl rfl

/-- The denominators of the grid points add up to the sum of the mask. -/
theorem den_eq : ∑ t : Fin cfg0.N, denP m c t = ∑ n : Fin 256, ∑ l : Fin 196, M0 m c (ix2 n l) := by
  refine Eq.trans ?_ (sum_all fun n l => M0 m c (ix2 n l))
  refine Finset.sum_congr rfl fun t _ => Finset.sum_congr rfl fun k _ => Finset.sum_congr rfl fun r _ => ?_
  exact Reads.read2 m c t (img t k r) k r rfl

/-- The kernel's result is the masked mean of the reference's per-patch losses, when every pixel is real. -/
theorem result (hI : ∀ i, ∃ r : ℝ, I0 m c i = r) (j : S1x1.Idx) :
    Value.G3 m c j = Ideal.div (∑ n : Fin 256, ∑ l : Fin 196, rLoss m c n l * M0 m c (ix2 n l)) (∑ n : Fin 256, ∑ l : Fin 196, M0 m c (ix2 n l)) := by
  rw [out_total, num_eq m c hI, den_eq]

end Cert.Proof.Equation

end
-- ==== Proof.Finite.lean ====
/- The precondition: its stated side conditions, and what it says of the pixels. -/
module

public import proofs.«01_k».proof.Pre_finite_imgs
public import Idealize.ShloMosaic.Lib.Pointwise
public import Idealize.ShloMosaic.Lib.ReduceAll
public import proofs.«01_k».proof.Proof.Consts

@[expose] public section

set_option maxRecDepth 16384

noncomputable section

namespace Cert.Proof.Finite

open Cert.Pre_finite_imgs Idealize.ShloMosaic Cert.Proof.Consts

/-- The predicate's side conditions hold. -/
instance facts : Cert.Pre_finite_imgs.Facts where
  bcast_S_S256x3x224x224 := by decide
  reducesTo_S256x3x224x224_S_d0_1_2_3 := by decide
  h_S_ := by decide

/-- Where the predicate is one, every pixel is a real number. -/
theorem real_of_fn (I : FVec Ideal S256x3x224x224 .f32) (P : FVec Ideal S256x196x768 .f32) (M : FVec Ideal S256x196 .f32)
    (j : S_.Idx) (e : fn I P M j = 1#1) (i : S256x3x224x224.Idx) : ∃ r : ℝ, I i = r := by
  have h := Host.reduce_andi_all _ _ _ _ j e i
  have h' : (cmpf .olt (Host.absf I) (broadcastInDim S256x3x224x224 ![] Facts.bcast_S_S256x3x224x224 (constant S_ .f32 0x7F800000#32))) i = 1#1 := h
  revert h'
  pointwise
  intro h'
  rw [ofBits_inf, show FloatOps.absf (F := Ideal) (I i) = max (I i) (-(I i)) from rfl] at h'
  induction hI : I i using EReal.rec with
  | bot => rw [hI] at h'; simp at h'
  | coe r => exact ⟨r, rfl⟩
  | top => rw [hI] at h'; simp at h'

end Cert.Proof.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to its end from any memory, leaves its arguments unchanged and every semaphore at zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The constant named `inv_k` is 1/768. -/
theorem preserves : preserves_Kernel_KernelIdeal :=
  IdealRules.named_const.statement Cert.KernelIdeal.κ "inv_k" .f32 0x3AAAAAAB#32 ((768⁻¹ : ℝ) : EReal) rfl

/-- From equal arguments with finite images the reference's result is the kernel's. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite_imgs m) (c : Dev Cert.KernelIdeal.nD)
    (h0 : m' ((c.tc : Thread Cert.ReferenceIdeal.nD Cert.ReferenceIdeal.τ).loc Cert.ReferenceIdeal.main_arg0) = Equation.I0 m c)
    (h1 : m' ((c.tc : Thread Cert.ReferenceIdeal.nD Cert.ReferenceIdeal.τ).loc Cert.ReferenceIdeal.main_arg1) = Equation.P0 m c)
    (h2 : m' ((c.tc : Thread Cert.ReferenceIdeal.nD Cert.ReferenceIdeal.τ).loc Cert.ReferenceIdeal.main_arg2) = Equation.M0 m c) :
    Cert.ReferenceIdeal.Value.res_main_v25 m' c = Cert.KernelIdeal.Value.G3 m c := by
  have hI : ∀ i, ∃ r : ℝ, Equation.I0 m c i = r := Finite.real_of_fn _ _ _ _ (congrFun (hpre c) (fun a => a.elim0))
  refine (RefValue.res_eq m' c).trans (funext fun j => ?_)
  rw [h0, h1, h2]
  refine (RefValue.total_at _ _ j).trans (Eq.trans ?_ (Equation.result m c hI j).symm)
  refine congrArg (fun s => Ideal.div s _) (Finset.sum_congr rfl fun n _ => Finset.sum_congr rfl fun l _ => ?_)
  rw [RefValue.loss_row]
  rfl

/-- With finite images the kernel and the reference end with the same result. -/
theorem algebraic : algebraic_KernelIdeal_ReferenceIdeal_pre_finite_imgs := by
  intro m ρ m' ρ' hpre hagree
  refine ⟨fun c => Cert.KernelIdeal.Value.G3 m c, Cert.KernelIdeal.Value.run m ρ, ?_⟩
  exact (θ_run _ _ _).mono (fun _ h c => ⟨(h c).1.trans (values_eq m m' hpre c (hagree c).1 (hagree c).2.1 (hagree c).2.2), (h c).2⟩)
    (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts, Cert.Proof.Finite.facts,
    fun m ρ _ => Cert.Kernel.Gen.frame m ρ, fun m ρ _ => Cert.KernelIdeal.Gen.frame m ρ, fun m ρ _ => Cert.KernelIdeal.Gen.frame m ρ,
    fun m ρ _ => ref_frame m ρ, fun m ρ _ => ref_frame m ρ, preserves, algebraic⟩

end Cert.Proof

end
